-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S16x256x32x32 : Shape := ⟨4, ![16, 256, 32, 32]⟩
abbrev S8192x256 : Shape := ⟨2, ![8192, 256]⟩
abbrev S_ : Shape := ⟨0, ![]⟩

class Facts : Prop where
  bcast_S_S16x256x32x32 : S_.BroadcastsInDim S16x256x32x32 (![] : Fin 0 → Fin S16x256x32x32.rank)
  reducesTo_S16x256x32x32_S_d0_1_2_3 : S16x256x32x32.ReducesTo [0, 1, 2, 3] S_
  h_S_ : 0 < S_.numel

variable [Facts]

def fn {F : FTy → Type} [FloatOps F] (main_arg0 : FVec F S16x256x32x32 .f32) (main_arg1 : FVec F S8192x256 .f32) : IVec S_ 1 :=
  let main_v0 : FVec F S16x256x32x32 .f32 := Host.absf main_arg0
  let main_cst : FVec F S_ .f32 := constant S_ .f32 0x7F800000#32
  let main_v1 : FVec F S16x256x32x32 .f32 := broadcastInDim S16x256x32x32 ![] bcast_S_S16x256x32x32 main_cst
  let main_v2 : IVec S16x256x32x32 1 := cmpf .olt main_v0 main_v1
  let main_c : IVec S_ 1 := constantI S_ 1 1#1
  let main_v3 : IVec S_ 1 := (fun x v => Host.reduce IntOp.andi x v reducesTo_S16x256x32x32_S_d0_1_2_3 h_S_) main_v2 main_c
  main_v3
-- ==== Kernel.lean ====
abbrev S16x256x32x32 : Shape := ⟨4, ![16, 256, 32, 32]⟩
abbrev S8192x256 : Shape := ⟨2, ![8192, 256]⟩
abbrev S16x32x32x256 : Shape := ⟨4, ![16, 32, 32, 256]⟩
abbrev S16384x256 : Shape := ⟨2, ![16384, 256]⟩
abbrev S16384x8192 : Shape := ⟨2, ![16384, 8192]⟩
abbrev S64x1x256 : Shape := ⟨3, ![64, 1, 256]⟩
abbrev S64x1x128 : Shape := ⟨3, ![64, 1, 128]⟩
abbrev S64x1x1 : Shape := ⟨3, ![64, 1, 1]⟩
abbrev S64 : Shape := ⟨1, ![64]⟩
abbrev S_ : Shape := ⟨0, ![]⟩
abbrev S16384 : Shape := ⟨1, ![16384]⟩
abbrev S256x256 : Shape := ⟨2, ![256, 256]⟩
abbrev S256x8192 : Shape := ⟨2, ![256, 8192]⟩
abbrev S1x1x256 : Shape := ⟨3, ![1, 1, 256]⟩
abbrev S1x1x128 : Shape := ⟨3, ![1, 1, 128]⟩
abbrev S256 : Shape := ⟨1, ![256]⟩
abbrev S256x1 : Shape := ⟨2, ![256, 1]⟩
abbrev S8192 : Shape := ⟨1, ![8192]⟩
abbrev S1x8192 : Shape := ⟨2, ![1, 8192]⟩
abbrev S1x256x256 : Shape := ⟨3, ![1, 256, 256]⟩
abbrev S1 : Shape := ⟨1, ![1]⟩
abbrev S1x1x1 : Shape := ⟨3, ![1, 1, 1]⟩
abbrev S1x1 : Shape := ⟨2, ![1, 1]⟩

abbrev nBuf : Space → Nat
  | .hbm => 17
  | .vmem => 11
  | .smem => 0
  | _ => 0

abbrev bufTy : (tb : Table) → Fin (tcTables nBuf tb) → BufTy
  | .hbm, ⟨0, _⟩ => ⟨S16x256x32x32, .f32⟩
  | .hbm, ⟨1, _⟩ => ⟨S8192x256, .f32⟩
  | .hbm, ⟨2, _⟩ => ⟨S16x32x32x256, .f32⟩
  | .hbm, ⟨3, _⟩ => ⟨S16384x256, .f32⟩
  | .hbm, ⟨4, _⟩ => ⟨S16384x8192, .f32⟩
  | .hbm, ⟨5, _⟩ => ⟨S64x1x256, .i32⟩
  | .hbm, ⟨6, _⟩ => ⟨S16384x256, .f32⟩
  | .hbm, ⟨7, _⟩ => ⟨S64x1x128, .f32⟩
  | .hbm, ⟨8, _⟩ => ⟨S64x1x1, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16x32x32x256, .f32⟩
  | .hbm, ⟨15, _⟩ => ⟨S16x256x32x32, .f32⟩
  | .hbm, ⟨16, _⟩ => ⟨S16384, .i32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S256x8192, .f32⟩
  | .local _ .vmem, ⟨4, _⟩ => ⟨S256x8192, .f32⟩
  | .local _ .vmem, ⟨5, _⟩ => ⟨S1x1x256, .i32⟩
  | .local _ .vmem, ⟨6, _⟩ => ⟨S1x1x256, .i32⟩
  | .local _ .vmem, ⟨7, _⟩ => ⟨S256x256, .f32⟩
  | .local _ .vmem, ⟨8, _⟩ => ⟨S256x256, .f32⟩
  | .local _ .vmem, ⟨9, _⟩ => ⟨S1x1x128, .f32⟩
  | .local _ .vmem, ⟨10, _⟩ => ⟨S1x1x128, .f32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0_2 : Ref sig .tc := ⟨.hbm, 4, rfl⟩
abbrev main_call0_v2_1 : Ref sig .tc := ⟨.hbm, 5, rfl⟩
abbrev main_call0_v2_2 : Ref sig .tc := ⟨.hbm, 6, rfl⟩
abbrev main_call0_v2_3 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_call0_cst_0 : Ref sig .tc := ⟨.hbm, 12, rfl⟩
abbrev main_v0_0 : Ref sig .tc := ⟨.hbm, 13, rfl⟩
abbrev main_call0_v7 : Ref sig .tc := ⟨.hbm, 14, rfl⟩
abbrev main_v0_1 : Ref sig .tc := ⟨.hbm, 15, rfl⟩
abbrev main_v0_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x256x32x32 : Shape := ⟨4, ![16, 256, 32, 32]⟩
abbrev S8192x256 : Shape := ⟨2, ![8192, 256]⟩
abbrev S16x32x32x256 : Shape := ⟨4, ![16, 32, 32, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S256x8192 : Shape := ⟨2, ![256, 8192]⟩

abbrev nBuf : Space → Nat
  | .hbm => 52
  | .vmem => 0
  | .smem => 0
  | _ => 0

abbrev bufTy : (tb : Table) → Fin (tcTables nBuf tb) → BufTy
  | .hbm, ⟨0, _⟩ => ⟨S16x256x32x32, .f32⟩
  | .hbm, ⟨1, _⟩ => ⟨S8192x256, .f32⟩
  | .hbm, ⟨2, _⟩ => ⟨S16x32x32x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S256x8192, .f32⟩
  | .hbm, ⟨16, _⟩ => ⟨S16384x8192, .f32⟩
  | .hbm, ⟨17, _⟩ => ⟨S_, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S16384x8192, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16384x1, .i32⟩
  | .hbm, ⟨27, _⟩ => ⟨S1x8192, .i32⟩
  | .hbm, ⟨28, _⟩ => ⟨S16384x8192, .i32⟩
  | .hbm, ⟨29, _⟩ => ⟨S16384x8192, .i32⟩
  | .hbm, ⟨30, _⟩ => ⟨S16384x8192, .i1⟩
  | .hbm, ⟨31, _⟩ => ⟨S16384x8192, .f32⟩
  | .hbm, ⟨32, _⟩ => ⟨S16384x256, .f32⟩
  | .hbm, ⟨33, _⟩ => ⟨S16x32x32x256, .f32⟩
  | .hbm, ⟨34, _⟩ => ⟨S16x32x32x256, .f32⟩
  | .hbm, ⟨35, _⟩ => ⟨S16x32x32x256, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16x32x32x256, .f32⟩
  | .hbm, ⟨41, _⟩ => ⟨S16x32x32x256, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S16x32x32x256, .f32⟩
  | .hbm, ⟨47, _⟩ => ⟨S16x32x32x256, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S16x256x32x32, .f32⟩
  | _, _ => ⟨S16x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Proof.FirstMin.lean ====
/-
  The first position at which a finite family of extended reals takes its least value, as plain mathematics: what it is
  (`IsFirstMin`, unique), that it exists (`firstMin`), how it is found window by window (`firstMin_window`: the kernel
  takes the first minimum of three windows of columns and keeps a later one only where it is strictly less), and the two
  folds that compute it — a minimum and then the least position holding it (`fold_minsi_firstMin`, the kernel's), and
  one fold over (value, position) pairs (`foldl_pairs_firstMin`, the reference's).
-/
module

public import Idealize.ShloMosaic.PureOps.Ideal.Laws
public import Idealize.ShloMosaic.Lib.SortNet.Extract

@[expose] public section

noncomputable section

namespace Cert.FirstMin

open Idealize.ShloMosaic

/-! ## The first least position -/

section Position

variable {n : ℕ}

/-- `c` is the first position at which `f` takes its least value. -/
def IsFirstMin (f : Fin n → EReal) (c : Fin n) : Prop := (∀ j, f c ≤ f j) ∧ ∀ j, j < c → f c < f j

/-- There is at most one first minimum. -/
theorem IsFirstMin.unique {f : Fin n → EReal} {c d : Fin n} (hc : IsFirstMin f c) (hd : IsFirstMin f d) : c = d := by
  rcases lt_trichotomy c d with h | h | h
  · exact absurd (hd.2 c h) (not_lt.mpr (hc.1 d))
  · exact h
  · exact absurd (hc.2 d h) (not_lt.mpr (hd.1 c))

/-- A first minimum exists. -/
theorem exists_isFirstMin [NeZero n] (f : Fin n → EReal) : ∃ c, IsFirstMin f c := by
  obtain ⟨c₀, h₀⟩ := Finite.exists_min f
  obtain ⟨c, hc, hmin⟩ := (wellFounded_lt (α := Fin n)).has_min {c | ∀ j, f c ≤ f j} ⟨c₀, h₀⟩
  refine ⟨c, hc, fun j hj => lt_of_not_ge fun hle => hmin j (fun k => hle.trans (hc k)) hj⟩

/-- The first position at which `f` takes its least value. -/
def firstMin [NeZero n] (f : Fin n → EReal) : Fin n := (exists_isFirstMin f).choose

/-- `firstMin f` is a first minimum. -/
theorem firstMin_spec [NeZero n] (f : Fin n → EReal) : IsFirstMin f (firstMin f) := (exists_isFirstMin f).choose_spec

/-- Every first minimum is `firstMin f`. -/
theorem IsFirstMin.eq_firstMin [NeZero n] {f : Fin n → EReal} {c : Fin n} (h : IsFirstMin f c) : c = firstMin f :=
  h.unique (firstMin_spec f)

/-- The least value of `f`. -/
def least [NeZero n] (f : Fin n → EReal) : EReal := f (firstMin f)

/-- `f` on the positions from `lo` up to `hi`, and `⊤` elsewhere. -/
def window (lo hi : ℕ) (f : Fin n → EReal) : Fin n → EReal := fun c => if lo ≤ c.val ∧ c.val < hi then f c else ⊤

/-- The window of all columns changes nothing. -/
theorem window_all (f : Fin n → EReal) : window 0 n f = f :=
  funext fun c => if_pos ⟨Nat.zero_le _, c.isLt⟩

theorem window_of_mem {lo hi : ℕ} {f : Fin n → EReal} {c : Fin n} (h₁ : lo ≤ c.val) (h₂ : c.val < hi) :
    window lo hi f c = f c := if_pos ⟨h₁, h₂⟩

theorem window_of_not_mem {lo hi : ℕ} {f : Fin n → EReal} {c : Fin n} (h : c.val < lo ∨ hi ≤ c.val) :
    window lo hi f c = ⊤ := if_neg fun hc => by omega

/-- Where the window's value is below `⊤`, the position is inside the window. -/
theorem mem_of_window_lt_top {lo hi : ℕ} {f : Fin n → EReal} {c : Fin n} (h : window lo hi f c < ⊤) :
    lo ≤ c.val ∧ c.val < hi := by
  by_contra hc
  exact absurd (if_neg hc : window lo hi f c = ⊤) h.ne

/-- The window `[0, b)` is `[0, a)` before position `a` and `[a, b)` from there on. -/
theorem window_join {a b : ℕ} (hab : a ≤ b) (f : Fin n → EReal) (j : Fin n) :
    window 0 b f j = if j.val < a then window 0 a f j else window a b f j := by
  unfold window
  split_ifs <;> first | rfl | omega

/-- The first least position of the window `[0, b)` is that of `[a, b)` where its value is strictly below the least of
    `[0, a)`, and that of `[0, a)` otherwise. -/
theorem isFirstMin_window {a b : ℕ} (hab : a ≤ b) {f : Fin n → EReal} {c d : Fin n} (hc : IsFirstMin (window 0 a f) c)
    (hd : IsFirstMin (window a b f) d) :
    IsFirstMin (window 0 b f) (if window a b f d < window 0 a f c then d else c)
      ∧ window 0 b f (if window a b f d < window 0 a f c then d else c)
        = if window a b f d < window 0 a f c then window a b f d else window 0 a f c := by
  split_ifs with h
  · have hda := (mem_of_window_lt_top (h.trans_le le_top)).1
    have e : window 0 b f d = window a b f d := by rw [window_join hab, if_neg (not_lt.mpr hda)]
    refine ⟨⟨fun j => ?_, fun j hj => ?_⟩, e⟩ <;> rw [e, window_join hab f j] <;> split_ifs with hja
    · exact h.le.trans (hc.1 j)
    · exact hd.1 j
    · exact h.trans_le (hc.1 j)
    · exact hd.2 j hj
  · have h := not_lt.mp h
    have e : window 0 b f c = window 0 a f c := by
      rw [window_join hab]
      split_ifs with hca
      · rfl
      · have ht : window 0 a f c = ⊤ := window_of_not_mem (.inr (not_lt.mp hca))
        rw [ht] at h ⊢
        exact top_le_iff.mp (h.trans (hd.1 c))
    refine ⟨⟨fun j => ?_, fun j hj => ?_⟩, e⟩
    · rw [e, window_join hab f j]
      split_ifs
      · exact hc.1 j
      · exact h.trans (hd.1 j)
    · have hlt := hc.2 j hj
      have hja : j.val < a := by
        by_contra hja
        rw [window_of_not_mem (.inr ((not_lt.mp hja).trans (Fin.le_def.mp hj.le)))] at hlt
        exact not_top_lt hlt
      rw [e, window_join hab f j, if_pos hja]
      exact hlt

/-- `isFirstMin_window` for the first least positions themselves. -/
theorem firstMin_window [NeZero n] {a b : ℕ} (hab : a ≤ b) (f : Fin n → EReal) :
    firstMin (window 0 b f)
      = if least (window a b f) < least (window 0 a f) then firstMin (window a b f) else firstMin (window 0 a f) :=
  (isFirstMin_window hab (firstMin_spec _) (firstMin_spec _)).1.eq_firstMin.symm

theorem least_window [NeZero n] {a b : ℕ} (hab : a ≤ b) (f : Fin n → EReal) :
    least (window 0 b f)
      = if least (window a b f) < least (window 0 a f) then least (window a b f) else least (window 0 a f) := by
  refine Eq.trans ?_ (isFirstMin_window hab (firstMin_spec (window 0 a f)) (firstMin_spec (window a b f))).2
  exact congrArg (window 0 b f) (firstMin_window hab f)

end Position

/-! ## The minimum and then the least position holding it -/

section Folds

variable {n : ℕ} [NeZero n]

/-- The least value is the fold of the minimum. -/
theorem fold_min_eq_least (f : Fin n → EReal) : Finset.univ.fold min ⊤ f = least f := by
  refine le_antisymm ?_ ?_
  · exact Finset.fold_min_le _ |>.mpr (.inr ⟨firstMin f, Finset.mem_univ _, le_rfl⟩)
  · exact Finset.le_fold_min _ |>.mpr ⟨le_top, fun x _ => (firstMin_spec f).1 x⟩

/-- A small number is its word read as a signed integer. -/
theorem toInt_ofNat {c : ℕ} (hc : c < 2 ^ 31) : (BitVec.ofNat 32 c).toInt = c := by
  have e : (BitVec.ofNat 32 c).toNat = c := by rw [BitVec.toNat_ofNat]; exact Nat.mod_eq_of_lt (by omega)
  rw [BitVec.toInt_eq_toNat_of_lt (by omega), e]

/-- The least of the positions holding the least value — each position that does not hold it read as `big`, which is
    beyond every position — is the first one. -/
theorem fold_minsi_firstMin (f : Fin n → EReal) (big : ℕ) (hn : n ≤ big) (hb : big < 2 ^ 31) :
    Finset.univ.fold IntOp.minsi (2147483647#32)
        (fun x : Fin n => if f x = least f then BitVec.ofNat 32 x.val else BitVec.ofNat 32 big)
      = BitVec.ofNat 32 (firstMin f).val := by
  have hlt (c : Fin n) : c.val < 2 ^ 31 := lt_of_lt_of_le c.isLt (hn.trans hb.le)
  refine BitVec.eq_of_toInt_eq ?_
  rw [← Finset.fold_hom (op' := min) (m := BitVec.toInt) SortNet.toInt_minsi]
  refine le_antisymm ?_ ?_
  · refine Finset.fold_min_le _ |>.mpr (.inr ⟨firstMin f, Finset.mem_univ _, ?_⟩)
    exact (congrArg BitVec.toInt (if_pos (show f (firstMin f) = least f from rfl))).le
  · refine Finset.le_fold_min _ |>.mpr ⟨?_, fun x _ => ?_⟩
    · have := hlt (firstMin f)
      rw [toInt_ofNat this]
      have e : (2147483647#32).toInt = 2147483647 := by decide
      rw [e]; omega
    · rw [toInt_ofNat (hlt _)]
      split_ifs with hx
      · rw [toInt_ofNat (hlt _)]
        have : ¬ x < firstMin f := fun h => absurd hx ((firstMin_spec f).2 x h).ne'
        exact_mod_cast Fin.le_def.mp (not_lt.mp this)
      · rw [toInt_ofNat hb]
        exact_mod_cast ((firstMin f).isLt.trans_le hn).le

/-! ## One fold over (value, position) pairs -/

/-- The pair kept of two: the one of less value, and at equal values the one of less position. -/
def keep (p q : EReal × BitVec 32) : EReal × BitVec 32 :=
  if p.1 < q.1 ∨ (p.1 = q.1 ∧ p.2.toInt < q.2.toInt) then p else q

/-- `p` comes no later than `q`: less value, or equal value and no greater position. -/
def Before (p q : EReal × BitVec 32) : Prop := p.1 < q.1 ∨ (p.1 = q.1 ∧ p.2.toInt ≤ q.2.toInt)

theorem Before.refl (p : EReal × BitVec 32) : Before p p := .inr ⟨rfl, le_rfl⟩

theorem Before.trans {p q r : EReal × BitVec 32} (h : Before p q) (k : Before q r) : Before p r := by
  rcases h with h | ⟨h, h'⟩ <;> rcases k with k | ⟨k, k'⟩
  · exact .inl (h.trans k)
  · exact .inl (k ▸ h)
  · exact .inl (h ▸ k)
  · exact .inr ⟨h.trans k, h'.trans k'⟩

theorem keep_before (p q : EReal × BitVec 32) :
    (keep p q = p ∨ keep p q = q) ∧ Before (keep p q) p ∧ Before (keep p q) q := by
  unfold keep
  split_ifs with h
  · exact ⟨.inl rfl, .refl p, h.imp_right fun h => ⟨h.1, h.2.le⟩⟩
  · refine ⟨.inr rfl, ?_, .refl q⟩
    rw [not_or, not_lt, not_and, not_lt] at h
    exact h.1.lt_or_eq.imp_right fun e => ⟨e, h.2 e.symm⟩

/-- Folding `keep` gives one of the pairs folded, and no pair comes before it. -/
theorem foldl_keep (l : List (EReal × BitVec 32)) (p : EReal × BitVec 32) :
    (l.foldl keep p = p ∨ l.foldl keep p ∈ l) ∧ Before (l.foldl keep p) p ∧ ∀ q ∈ l, Before (l.foldl keep p) q := by
  induction l generalizing p with
  | nil => exact ⟨.inl rfl, .refl p, fun q h => nomatch h⟩
  | cons a l ih =>
    obtain ⟨hm, hp, hl⟩ := ih (keep p a)
    obtain ⟨km, kp, ka⟩ := keep_before p a
    refine ⟨?_, hp.trans kp, fun q hq => ?_⟩
    · rcases hm with hm | hm
      · rcases km with km | km
        · exact .inl (hm.trans km)
        · exact .inr (List.mem_cons.mpr (.inl (hm.trans km)))
      · exact .inr (List.mem_cons_of_mem _ hm)
    · rcases List.mem_cons.mp hq with rfl | hq
      · exact hp.trans ka
      · exact hl q hq

/-- Folding `keep` over the pairs of `f` from `(⊤, 0)` gives the first least position. -/
theorem foldl_pairs_firstMin (f : Fin n → EReal) (hn : n < 2 ^ 31) (l : List (EReal × BitVec 32))
    (hl : ∀ p, p ∈ l ↔ ∃ c : Fin n, p = (f c, BitVec.ofNat 32 c.val)) :
    (l.foldl keep (⊤, 0#32)).2 = BitVec.ofNat 32 (firstMin f).val := by
  obtain ⟨hm, -, hall⟩ := foldl_keep l (⊤, 0#32)
  have hall (c : Fin n) : Before (l.foldl keep (⊤, 0#32)) (f c, BitVec.ofNat 32 c.val) := hall _ ((hl _).mpr ⟨c, rfl⟩)
  have hlt (c : Fin n) : c.val < 2 ^ 31 := c.isLt.trans hn
  rcases hm with hm | hm
  · rw [hm] at hall ⊢
    have top (c : Fin n) : f c = ⊤ := by
      rcases hall c with h | h
      · exact absurd h not_top_lt
      · exact h.1.symm
    have h0 : IsFirstMin f 0 :=
      ⟨fun j => by rw [top, top], fun j hj => absurd hj (not_lt.mpr (Fin.zero_le j))⟩
    rw [← h0.eq_firstMin]
    rfl
  · obtain ⟨c, hc⟩ := (hl _).mp hm
    rw [hc] at hall ⊢
    have h0 : IsFirstMin f c := by
      refine ⟨fun j => ?_, fun j hj => ?_⟩
      · rcases hall j with h | h
        · exact h.le
        · exact h.1.le
      · rcases hall j with h | ⟨-, h⟩
        · exact h
        · simp only [toInt_ofNat (hlt _)] at h
          exact absurd (Fin.lt_def.mp hj) (by omega)
    rw [← h0.eq_firstMin]

end Folds

end Cert.FirstMin
end
-- ==== Proof.Codebook.lean ====
/-
  Vector quantization of one row against a codebook of 8192 rows, as plain mathematics on extended reals: the distance of
  the row to each codebook row, the code (the first codebook row at the least distance), its one-hot row, the codebook row
  it selects, and the square of a difference. Both the kernel and the reference are shown to compute these.
-/
module

public import proofs.«01_k».proof.Proof.FirstMin

@[expose] public section

noncomputable section

namespace Cert.Codebook

open Idealize.ShloMosaic Cert.FirstMin

/-- The word of the infinity is the top of the extended reals. -/
theorem inf_eq_top : Ideal.ofBits .f32 2139095040#32 = (⊤ : EReal) := by simp [Ideal.ofBits, Ideal.ieee]

/-- A row of 256 entries. -/
abbrev Row := Fin 256 → EReal

/-- The codebook: 8192 rows. -/
abbrev Book := Fin 8192 → Row

/-- The distance of row `x` to codebook row `c`, expanded: `|x|² + |w|² - 2 x·w`, the factor 2 as the programs print it. -/
def dist (x : Row) (w : Book) (c : Fin 8192) : EReal :=
  ∑ k, x k * x k + ∑ k, w c k * w c k - Ideal.ofBits .f32 1073741824#32 * ∑ k, x k * w c k

/-- The code of row `x`: the first codebook row at the least distance. -/
def best (x : Row) (w : Book) : Fin 8192 := firstMin (dist x w)

/-- The code as the word the programs store. -/
def word (x : Row) (w : Book) : BitVec 32 := BitVec.ofNat 32 (best x w).val

/-- The one-hot entry of row `x` at column `c`. -/
def hot (x : Row) (w : Book) (c : Fin 8192) : EReal := if c = best x w then 1 else 0

/-- The codebook row selected by the one-hot row of `x`, as the contraction the programs compute. -/
def quant (x : Row) (w : Book) (k : Fin 256) : EReal := ∑ c, hot x w c * w c k

/-- The squared difference of the selected codebook row and the row. -/
def sqDiff (x : Row) (w : Book) (k : Fin 256) : EReal := (quant x w k - x k) * (quant x w k - x k)

/-- Words of codebook rows agree exactly when the rows do. -/
theorem ofNat_inj {c d : Fin 8192} : BitVec.ofNat 32 c.val = BitVec.ofNat 32 d.val ↔ c = d := by
  refine ⟨fun h => Fin.ext ?_, fun h => h ▸ rfl⟩
  have h := congrArg BitVec.toInt h
  rw [toInt_ofNat (by omega), toInt_ofNat (by omega)] at h
  exact_mod_cast h

/-- The bit that says whether the word of column `c` is the code. -/
theorem cmpi_word (x : Row) (w : Book) (c : Fin 8192) :
    IntOp.cmpi .eq (BitVec.ofNat 32 c.val) (word x w) = BitVec.ofBool (decide (c = best x w)) := by
  unfold word
  show BitVec.ofBool (BitVec.ofNat 32 c.val == BitVec.ofNat 32 (best x w).val) = _
  by_cases e : c = best x w
  · rw [decide_eq_true e, e, beq_self_eq_true]
  · rw [decide_eq_false e, beq_eq_false_iff_ne.mpr (mt ofNat_inj.mp e)]

end Cert.Codebook
end
-- ==== Proof.Block.lean ====
/-
  What one grid step of the kernel computes from its 256 rows and the codebook, entry by entry: the distances, the code
  of each row — the first least distance, found over three windows of columns — the one-hot row of that code, the
  codebook row it selects, and the sum of squared differences.
-/
module

public import proofs.«01_k».proof.Proof.Gen.KernelIdeal.Skeleton
public import proofs.«01_k».proof.Proof.Codebook
public import Idealize.ShloMosaic.Lib.Pointwise

@[expose] public section

set_option maxRecDepth 16384

noncomputable section

namespace Cert.KernelIdeal.Block

open Idealize.ShloMosaic Cert.FirstMin Cert.Codebook Cert.KernelIdeal Cert.KernelIdeal.Gen

/-! ## Vectors the step is made of -/

/-- The column number at every entry. -/
abbrev cols : IVec S256x8192 32 := iota .tc S256x8192 32 [1] iota_S256x8192_d1_w32

/-- `v` on the columns from `lo` up to `hi`, and the infinity elsewhere. -/
def masked (lo hi : ℕ) (v : FVec Ideal S256x8192 .f32) : FVec Ideal S256x8192 .f32 :=
  select (andi (cmpi .sge cols (broadcast S256x8192 (BitVec.ofNat 32 lo)))
      (cmpi .slt cols (broadcast S256x8192 (BitVec.ofNat 32 hi)))) v
    (broadcast S256x8192 (Scalar.ofBits .f32 0x7F800000#32))

/-- The least of each row. -/
def rowMin (v : FVec Ideal S256x8192 .f32) : FVec Ideal S256x1 .f32 :=
  shapeCast S256x1 (multiReduction .minimumf [1] S256 v 0x7F800000#32 reduces_S256x8192_S256 (.inl rfl) rfl)
    shapeCasts_S256_S256x1

/-- The least column at which each row takes its least value. -/
def rowArgMin (v : FVec Ideal S256x8192 .f32) : IVec S256x1 32 :=
  shapeCast S256x1 (multiReductionI .minsi [1] S256
      (select (cmpf .oeq v (broadcastTo S256x8192 (rowMin v) broadcasts_S256x1_S256x8192)) cols
        (broadcast S256x8192 8192#32)) 2147483647#32 reduces_S256x8192_S256 rfl) shapeCasts_S256_S256x1

/-- The code of each row, from its distances: the three windows' first minima, a later one kept where strictly less. -/
def code (v : FVec Ideal S256x8192 .f32) : IVec S256x1 32 :=
  select (cmpf .olt (rowMin (masked 5472 8192 v))
      (select (cmpf .olt (rowMin (masked 2736 5472 v)) (rowMin (masked 0 2736 v)))
        (rowMin (masked 2736 5472 v)) (rowMin (masked 0 2736 v))))
    (rowArgMin (masked 5472 8192 v))
    (select (cmpf .olt (rowMin (masked 2736 5472 v)) (rowMin (masked 0 2736 v)))
      (rowArgMin (masked 2736 5472 v)) (rowArgMin (masked 0 2736 v)))

theorem pay4_eq (x : FVec Ideal S256x256 .f32) (w : FVec Ideal S8192x256 .f32) :
    k0_pay4 (F := Ideal) x w = masked 0 2736 (k0_pay3 x w) := by
  unfold k0_pay4 masked
  rfl

theorem pay5_eq (x : FVec Ideal S256x256 .f32) (w : FVec Ideal S8192x256 .f32) :
    k0_pay5 (F := Ideal) x w = rowMin (masked 0 2736 (k0_pay3 x w)) := by
  unfold k0_pay5 rowMin
  rw [pay4_eq]

theorem pay6_eq (x : FVec Ideal S256x256 .f32) (w : FVec Ideal S8192x256 .f32) :
    k0_pay6 (F := Ideal) x w = rowArgMin (masked 0 2736 (k0_pay3 x w)) := by
  unfold k0_pay6 rowArgMin
  rw [pay4_eq, pay5_eq]

theorem pay7_eq (x : FVec Ideal S256x256 .f32) (w : FVec Ideal S8192x256 .f32) :
    k0_pay7 (F := Ideal) x w = masked 2736 5472 (k0_pay3 x w) := by
  unfold k0_pay7 masked
  rfl

theorem pay8_eq_of (v : FVec Ideal S256x8192 .f32) (a : FVec Ideal S256x1 .f32) (b : IVec S256x1 32)
    (d : FVec Ideal S256x8192 .f32) :
    k0_pay8 (F := Ideal) v cols a b d
      = select (cmpf .olt (rowMin (masked 5472 8192 v)) (select (cmpf .olt (rowMin d) a) (rowMin d) a))
          (rowArgMin (masked 5472 8192 v)) (select (cmpf .olt (rowMin d) a) (rowArgMin d) b) := by
  unfold k0_pay8 rowArgMin rowMin masked
  rfl

/-- The kernel's code is `code` of its distances. -/
theorem pay8_eq (x : FVec Ideal S256x256 .f32) (w : FVec Ideal S8192x256 .f32) :
    k0_pay8 (F := Ideal) (k0_pay3 x w) cols (k0_pay5 (F := Ideal) x w) (k0_pay6 (F := Ideal) x w)
        (k0_pay7 (F := Ideal) x w) = code (k0_pay3 x w) := by
  rw [pay8_eq_of, pay5_eq, pay6_eq, pay7_eq]
  rfl

/-! ## Their entries -/

/-- A masked entry is the windowed entry. -/
theorem masked_apply {lo hi : ℕ} (hl : lo ≤ 8192) (hh : hi ≤ 8192) (v : FVec Ideal S256x8192 .f32) (r : Fin 256)
    (c : Fin 8192) : masked lo hi v (ix2 r c) = window lo hi (fun c => v (ix2 r c)) c := by
  have hc : c.val < 2 ^ 31 := by have := c.isLt; omega
  have e : masked lo hi v (ix2 r c)
      = Scalar.select (IntOp.andi (IntOp.cmpi .sge (BitVec.ofNat 32 c.val) (BitVec.ofNat 32 lo))
          (IntOp.cmpi .slt (BitVec.ofNat 32 c.val) (BitVec.ofNat 32 hi))) (v (ix2 r c))
          (Ideal.ofBits .f32 2139095040#32) := by
    pointwise [masked]
  rw [e, inf_eq_top]
  unfold window
  simp [Scalar.select, IntOp.andi, IntOp.cmpi, BitVec.sle, BitVec.slt, toInt_ofNat hc,
    toInt_ofNat (c := lo) (by omega), toInt_ofNat (c := hi) (by omega)]
  by_cases h₁ : lo ≤ c.val <;> by_cases h₂ : c.val < hi <;> simp [h₁, h₂]

/-- A row's minimum is the least of its entries. -/
theorem rowMin_apply (v : FVec Ideal S256x8192 .f32) (r : Fin 256) (u : Fin 1) :
    rowMin v (ix2 r u) = least fun c => v (ix2 r c) := by
  rw [← fold_min_eq_least, ← inf_eq_top]
  pointwise [rowMin]

/-- A row's argument minimum is the word of its first least column. -/
theorem rowArgMin_apply (v : FVec Ideal S256x8192 .f32) (r : Fin 256) (u : Fin 1) :
    rowArgMin v (ix2 r u) = BitVec.ofNat 32 (firstMin fun c => v (ix2 r c)).val := by
  rw [← fold_minsi_firstMin (fun c => v (ix2 r c)) 8192 le_rfl (by norm_num)]
  have h := rowMin_apply v r 0
  pointwise [rowArgMin]
  rw [h]

/-- The choice among three rows' minima and their columns, entry by entry. -/
theorem choose_apply (A₁ A₂ A₃ : FVec Ideal S256x1 .f32) (B₁ B₂ B₃ : IVec S256x1 32) (j : S256x1.Idx) :
    select (cmpf .olt A₃ (select (cmpf .olt A₂ A₁) A₂ A₁)) B₃ (select (cmpf .olt A₂ A₁) B₂ B₁) j
      = if A₃ j < (if A₂ j < A₁ j then A₂ j else A₁ j) then B₃ j else if A₂ j < A₁ j then B₂ j else B₁ j := by
  pointwise []

/-- The code of row `r` is the first column of least distance. -/
theorem code_apply (v : FVec Ideal S256x8192 .f32) (r : Fin 256) (u : Fin 1) :
    code v (ix2 r u) = BitVec.ofNat 32 (firstMin fun c => v (ix2 r c)).val := by
  have hm {lo hi : ℕ} (hl : lo ≤ 8192) (hh : hi ≤ 8192) :
      (fun c => masked lo hi v (ix2 r c)) = window lo hi fun c => v (ix2 r c) :=
    funext fun c => masked_apply hl hh v r c
  have a₁ := rowMin_apply (masked 0 2736 v) r u
  have a₂ := rowMin_apply (masked 2736 5472 v) r u
  have a₃ := rowMin_apply (masked 5472 8192 v) r u
  have b₁ := rowArgMin_apply (masked 0 2736 v) r u
  have b₂ := rowArgMin_apply (masked 2736 5472 v) r u
  have b₃ := rowArgMin_apply (masked 5472 8192 v) r u
  rw [hm (by norm_num) (by norm_num)] at a₁ a₂ a₃ b₁ b₂ b₃
  refine (choose_apply _ _ _ _ _ _ _).trans ?_
  rw [a₁, a₂, a₃, b₁, b₂, b₃]
  generalize (fun c => v (ix2 r c)) = f
  have h₂ := firstMin_window (n := 8192) (a := 2736) (b := 5472) (by norm_num) f
  have l₂ := least_window (n := 8192) (a := 2736) (b := 5472) (by norm_num) f
  have h₃ := firstMin_window (n := 8192) (a := 5472) (b := 8192) (by norm_num) f
  rw [window_all, l₂, h₂] at h₃
  rw [h₃]
  split_ifs <;> rfl

/-- Row `r` of a block of 256 rows. -/
def row (x : FVec Ideal S256x256 .f32) (r : Fin 256) : Row := fun k => x (ix2 r k)

/-- The codebook as rows. -/
def book (w : FVec Ideal S8192x256 .f32) : Book := fun c k => w (ix2 c k)

/-- The step's distances are those of its rows. -/
theorem dist_apply (x : FVec Ideal S256x256 .f32) (w : FVec Ideal S8192x256 .f32) (r : Fin 256) (c : Fin 8192) :
    k0_pay3 (F := Ideal) x w (ix2 r c) = dist (row x r) (book w) c := by
  pointwise [k0_pay3, k0_pay2]
  rfl

/-! ## What the step stores -/

/-- The step's code of row `r`. -/
theorem word_apply (x : FVec Ideal S256x256 .f32) (w : FVec Ideal S8192x256 .f32) (r : Fin 256) (u : Fin 1) :
    k0_pay8 (F := Ideal) (k0_pay3 x w) cols (k0_pay5 (F := Ideal) x w) (k0_pay6 (F := Ideal) x w)
        (k0_pay7 (F := Ideal) x w) (ix2 r u) = word (row x r) (book w) := by
  rw [pay8_eq, code_apply, funext (dist_apply x w r)]
  rfl

/-- The step's codes are those of its rows. -/
theorem codes_apply (x : FVec Ideal S256x256 .f32) (w : FVec Ideal S8192x256 .f32) (u v : Fin 1) (r : Fin 256) :
    k0_pay10 (F := Ideal) (k0_pay3 x w) cols (k0_pay5 (F := Ideal) x w) (k0_pay6 (F := Ideal) x w)
        (k0_pay7 (F := Ideal) x w) (ix3 u v r) = word (row x r) (book w) := by
  refine Eq.trans ?_ (word_apply x w r 0)
  generalize k0_pay3 (F := Ideal) x w = d, k0_pay5 (F := Ideal) x w = a, k0_pay6 (F := Ideal) x w = b,
    k0_pay7 (F := Ideal) x w = e
  pointwise [k0_pay10]

/-- The step's one-hot row `r` at column `c`. -/
theorem hot_apply (x : FVec Ideal S256x256 .f32) (w : FVec Ideal S8192x256 .f32) (r : Fin 256) (c : Fin 8192) :
    k0_pay9 (F := Ideal) (k0_pay3 x w) cols (k0_pay5 (F := Ideal) x w) (k0_pay6 (F := Ideal) x w)
        (k0_pay7 (F := Ideal) x w) (ix2 r c) = hot (row x r) (book w) c := by
  have h := word_apply x w r 0
  generalize k0_pay3 (F := Ideal) x w = d, k0_pay5 (F := Ideal) x w = a, k0_pay6 (F := Ideal) x w = b,
    k0_pay7 (F := Ideal) x w = e at *
  pointwise [k0_pay9]
  rw [h, cmpi_word]
  unfold hot
  by_cases e : c = best (row x r) (book w)
  · rw [if_pos e, decide_eq_true e]
    show (((1#32 : BitVec 32).toInt : ℝ) : EReal) = 1
    simp
  · rw [if_neg e, decide_eq_false e]
    show (((0#32 : BitVec 32).toInt : ℝ) : EReal) = 0
    simp

/-- The step's selected codebook row for row `r`. -/
theorem quant_apply (x : FVec Ideal S256x256 .f32) (w : FVec Ideal S8192x256 .f32) (r k : Fin 256) :
    k0_pay11 (F := Ideal) w (k0_pay3 x w) cols (k0_pay5 (F := Ideal) x w) (k0_pay6 (F := Ideal) x w)
        (k0_pay7 (F := Ideal) x w) (ix2 r k) = quant (row x r) (book w) k := by
  have h := hot_apply x w r
  generalize k0_pay3 (F := Ideal) x w = d, k0_pay5 (F := Ideal) x w = a, k0_pay6 (F := Ideal) x w = b,
    k0_pay7 (F := Ideal) x w = e at *
  unfold quant
  simp only [← h]
  pointwise [k0_pay11]
  rfl

/-- The step's sum of squared differences, at every lane. -/
theorem part_apply (x q : FVec Ideal S256x256 .f32) (w : FVec Ideal S8192x256 .f32)
    (hq : ∀ r k, q (ix2 r k) = quant (row x r) (book w) k) (j : S1x1x128.Idx) :
    k0_pay1 (F := Ideal) (k0_pay2 x) q j = ∑ r : Fin 256, ∑ k : Fin 256, sqDiff (row x r) (book w) k := by
  unfold sqDiff
  simp only [← hq]
  pointwise [k0_pay1, k0_pay2]
  rfl

end Cert.KernelIdeal.Block
end
-- ==== Proof.Arrays.lean ====
/-
  What the kernel's four output arrays hold after the region, as functions of the two arrays it reads: the step at point
  `t` handles rows `256 t` to `256 t + 255`, and the steps' blocks tile the arrays.
-/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.KernelIdeal.Arrays

open Idealize.ShloMosaic Idealize.ShloMosaic.TcCoe Cert.FirstMin Cert.Codebook Cert.KernelIdeal Cert.KernelIdeal.Gen
  Cert.KernelIdeal.Block

variable (m : (ℓ : Loc nD τ sig) → Buf (Elt Ideal) ℓ) (c : Dev nD)

/-- Row `r` of the flattened input, as the region finds it. -/
def X (r : Fin 16384) : Row := fun k => V m c main_call0_v1 (ix2 r k)

/-- The codebook, as the region finds it. -/
def W : Book := fun j k => V m c main_arg1 (ix2 j k)

/-- The row of the flattened input that point `t` handles at its row `r`. -/
def at_ (t : Fin 64) (r : Fin 256) : Fin 16384 := ⟨256 * t.val + r.val, by omega⟩

/-- Grid step `t` takes block `t` of the image rows and of the one-hot rows, and the whole codebook. -/
theorem idx : ∀ t : Fin cfg0.N, win0_0.index t = ![t.val, 0] ∧ win0_1.index t = ![0, 0] ∧ win0_2.index t = ![t.val, 0]
    ∧ win0_3.index t = ![t.val, 0, 0] ∧ win0_4.index t = ![t.val, 0] ∧ win0_5.index t = ![t.val, 0, 0] :=
  (by decide +kernel : ∀ t : Fin grid0.N, _)

/-- The rows staged at step `t` are the image rows `256 t` and on. -/
theorem row_blk (t : Fin cfg0.N) (r : Fin 256) : row (iblk m c 0 t) r = X m c (at_ ⟨t.val, t.isLt⟩ r) := by
  funext k
  unfold row X at_
  blk_ext [iblk, V, idx t]

/-- The codebook staged at any step is the whole codebook. -/
theorem book_blk (t : Fin cfg0.N) : book (iblk m c 1 t) = W m c := by
  funext j k
  unfold book W
  blk_ext [iblk, V, idx t]

/-! ## The values the step's stores share, at the whole blocks -/

section Shared

variable (x : Vec Ideal S256x256 .f32) (w : Vec Ideal S8192x256 .f32)

theorem ld_x : View.ld x r0_0 = x := View.ld_unit_lit _ _ (by decide)
theorem ld_w : View.ld w r0_1 = w := View.ld_unit_lit _ _ (by decide)
theorem pay13_eq : k0_pay13 x w = k0_pay3 (F := Ideal) x w := by unfold k0_pay13; rw [ld_x, ld_w]
theorem pay14_eq : k0_pay14 x w = k0_pay5 (F := Ideal) x w := by unfold k0_pay14; rw [ld_x, ld_w]
theorem pay15_eq : k0_pay15 x w = k0_pay6 (F := Ideal) x w := by unfold k0_pay15; rw [ld_x, ld_w]
theorem pay16_eq : k0_pay16 x w = k0_pay7 (F := Ideal) x w := by unfold k0_pay16; rw [ld_x, ld_w]

/-- The step's selected codebook rows. -/
theorem pay17_apply (r k : Fin 256) : k0_pay17 x w (ix2 r k) = quant (row x r) (book w) k := by
  unfold k0_pay17 k0_pay12
  rw [pay13_eq, pay14_eq, pay15_eq, pay16_eq, ld_w]
  exact quant_apply x w r k

end Shared

/-! ## The arrays -/

/-- The first array ends holding the one-hot rows. -/
theorem enc_arr : (dats m 0 c).arrAt 2 cfg0.N = fun i => hot (X m c (i 0)) (W m c) (i 1) := by
  refine (dats m 0 c).arrAt_eq_of_covers 2 _ (by decide +kernel) fun t hf y => ?_
  have e : ((cfg0.win 2).blk t).view.emb y = ix2 (at_ t (y 0)) (y 1) := by
    blk_ext [idx t, at_]
  rw [e]
  clear e
  blk_simp
  rw [after0_2]
  frame_out
  idx_vars y
  unfold k0_pay12
  rw [pay13_eq, pay14_eq, pay15_eq, pay16_eq]
  refine (hot_apply _ _ _ _).trans ?_
  rw [row_blk, book_blk]
  rfl

/-- The second array ends holding the codes. -/
theorem idx_arr : (dats m 0 c).arrAt 3 cfg0.N = fun i => word (X m c (at_ (i 0) (i 2))) (W m c) := by
  refine (dats m 0 c).arrAt_eq_of_covers 3 _ (by decide +kernel) fun t hf y => ?_
  have e : ((cfg0.win 3).blk t).view.emb y = ix3 t (y 1) (y 2) := by
    blk_ext [idx t]
  rw [e]
  clear e
  blk_simp
  rw [after0_3]
  frame_out
  idx_vars y
  unfold k0_pay12
  rw [pay13_eq, pay14_eq, pay15_eq, pay16_eq]
  refine (codes_apply _ _ _ _ _).trans ?_
  rw [row_blk, book_blk]
  rfl

/-- The third array ends holding the quantized rows. -/
theorem quant_arr : (dats m 0 c).arrAt 4 cfg0.N = fun i => quant (X m c (i 0)) (W m c) (i 1) := by
  refine (dats m 0 c).arrAt_eq_of_covers 4 _ (by decide +kernel) fun t hf y => ?_
  have e : ((cfg0.win 4).blk t).view.emb y = ix2 (at_ t (y 0)) (y 1) := by
    blk_ext [idx t, at_]
  rw [e]
  clear e
  blk_simp
  rw [after0_4]
  frame_out
  idx_vars y
  refine (pay17_apply _ _ _ _).trans ?_
  rw [row_blk, book_blk]
  rfl

/-- The fourth array ends holding each block's sum of squared differences. -/
theorem part_arr : (dats m 0 c).arrAt 5 cfg0.N = fun i => ∑ r, ∑ k, sqDiff (X m c (at_ (i 0) r)) (W m c) k := by
  refine (dats m 0 c).arrAt_eq_of_covers 5 _ (by decide +kernel) fun t hf y => ?_
  have e : ((cfg0.win 5).blk t).view.emb y = ix3 t (y 1) (y 2) := by
    blk_ext [idx t]
  rw [e]
  clear e
  blk_simp
  rw [after0_5]
  frame_out
  refine (part_apply _ _ _ (pay17_apply _ _) _).trans ?_
  simp only [row_blk, book_blk]
  rfl

end Cert.KernelIdeal.Arrays
end
-- ==== Proof.Results.lean ====
/-
  The four results as plain functions of the input image and the codebook: the loss, the quantized image, the one-hot
  rows, the codes. An image pixel `(b, h, w)` is the row `1024 b + 32 h + w` of 256 channels.
-/
module

public import proofs.«01_k».proof.Proof.Codebook

@[expose] public section

noncomputable section

namespace Cert.Results

open Idealize.ShloMosaic Cert.Codebook

/-- The image, by batch, channel, height and width. -/
abbrev Image := Fin 16 → Fin 256 → Fin 32 → Fin 32 → EReal

/-- The row number of a pixel. -/
def pix (b : Fin 16) (h w : Fin 32) : Fin 16384 := ⟨b.val * 1024 + h.val * 32 + w.val, by omega⟩

/-- The channels of the pixel whose row number is `r`. -/
def pixel (x : Image) (r : Fin 16384) : Row :=
  fun k => x ⟨r.val / 1024, by omega⟩ k ⟨r.val / 32 % 32, by omega⟩ ⟨r.val % 32, by omega⟩

/-- The channels at a pixel's row number are the pixel's. -/
theorem pixel_pix (x : Image) (b : Fin 16) (h w : Fin 32) (k : Fin 256) : pixel x (pix b h w) k = x b k h w := by
  unfold pixel pix
  congr 1 <;> (try congr 1) <;> (try congr 1) <;> simp only <;> omega

/-- The sum of squared differences over the image. -/
def total (x : Image) (w : Book) : EReal := ∑ r : Fin 16384, ∑ k, sqDiff (pixel x r) w k

/-- The loss: the total times 2⁻²¹, the factor as the kernel prints it. -/
def loss (x : Image) (w : Book) : EReal := total x w * Ideal.ofBits .f32 889192448#32

/-- Summing over blocks of 256 rows sums over the rows. -/
theorem sum_blocks (f : Fin 16384 → EReal) :
    ∑ t : Fin 64, ∑ r : Fin 256, f ⟨256 * t.val + r.val, by omega⟩ = ∑ r, f r := by
  rw [← Fintype.sum_prod_type']
  refine Fintype.sum_equiv (finProdFinEquiv (m := 64) (n := 256)) _ _ fun p => congrArg f (Fin.ext ?_)
  simp only [finProdFinEquiv_apply_val]
  omega

/-- Summing over batches, heights and widths sums over the rows. -/
theorem sum_pixels (f : Fin 16384 → EReal) :
    ∑ b : Fin 16, ∑ h : Fin 32, ∑ v : Fin 32, f (pix b h v) = ∑ r, f r := by
  simp only [← Fintype.sum_prod_type']
  refine Fintype.sum_equiv
    (((Equiv.refl _).prodCongr (finProdFinEquiv (m := 32) (n := 32))).trans (finProdFinEquiv (m := 16) (n := 1024)))
    _ _ fun p => congrArg f (Fin.ext ?_)
  simp only [pix, Equiv.trans_apply, Equiv.prodCongr_apply, Prod.map, Equiv.refl_apply, finProdFinEquiv_apply_val]
  omega

/-- The word of the mean's divisor is 2²². -/
theorem bits_mean : Ideal.ofBits .f32 0x4A800000#32 = ((4194304 : ℝ) : EReal) := by
  simp [Ideal.ofBits, Ideal.ieee, -EReal.coe_mul]
  norm_num

/-- The word of the loss's factor is 2⁻²¹. -/
theorem bits_loss : Ideal.ofBits .f32 889192448#32 = ((1 / 2097152 : ℝ) : EReal) := by
  simp [Ideal.ofBits, Ideal.ieee, -EReal.coe_mul]
  norm_num

/-- The word of one is one. -/
theorem bits_one : Ideal.ofBits .f32 0x3F800000#32 = 1 := by
  simp [Ideal.ofBits, Ideal.ieee, -EReal.coe_mul]
  norm_num

/-- A mean over the 2²² entries and once that mean again is the sum times 2⁻²¹, an infinite sum included. -/
theorem mean_twice (s : EReal) :
    Ideal.div s (Ideal.ofBits .f32 0x4A800000#32)
      + Ideal.ofBits .f32 0x3F800000#32 * Ideal.div s (Ideal.ofBits .f32 0x4A800000#32)
      = s * Ideal.ofBits .f32 889192448#32 := by
  rw [bits_mean, bits_loss, bits_one, one_mul, Ideal.div_coe (by norm_num : (4194304 : ℝ) ≠ 0)]
  induction s with
  | bot => rw [EReal.bot_mul_coe_of_pos (by norm_num), EReal.bot_mul_coe_of_pos (by norm_num)]; rfl
  | top => rw [EReal.top_mul_coe_of_pos (by norm_num), EReal.top_mul_coe_of_pos (by norm_num)]; rfl
  | coe r =>
    norm_cast
    ring

/-- Adding to a finite entry the difference to it gives the other entry, infinite or not. -/
theorem add_sub_finite (a : ℝ) (q : EReal) : (a : EReal) + (q - a) = q := by
  induction q with
  | bot => rfl
  | top => rfl
  | coe r =>
    norm_cast
    ring

end Cert.Results
end
-- ==== Proof.Tail.lean ====
/-
  The kernel's whole run: the operations before the region flatten the image into rows of channels, the region fills its
  four arrays, and the operations after it sum the parts of the loss and put the quantized rows and the codes in shape.
-/
module

public import proofs.«01_k».proof.Proof.Arrays
public import proofs.«01_k».proof.Proof.Results
public import Idealize.ShloMosaic.Lib.Claim
public import Idealize.ShloMosaic.Lib.StableHlo.ReadAt
public import Idealize.ShloMosaic.Lib.Tactic.CleanTypes

@[expose] public section

set_option maxRecDepth 16384

noncomputable section

namespace Cert.KernelIdeal.Tail

open Idealize.ShloMosaic Idealize.ShloMosaic.TcCoe Idealize.SL.Sem Cert.FirstMin Cert.Codebook Cert.Results Cert.KernelIdeal
  Cert.KernelIdeal.Gen Cert.KernelIdeal.Block Cert.KernelIdeal.Arrays

variable (m : (ℓ : Loc nD τ sig) → Buf (Elt Ideal) ℓ) (g : Dev nD → PrngReg)

/-- The image as launched. -/
def image (c : Dev nD) : Image := fun b k h w => m ((c.tc : Thread nD τ).loc main_arg0) (ix4 b k h w)

/-- The codebook as launched. -/
def codebook (c : Dev nD) : Book := fun j k => m ((c.tc : Thread nD τ).loc main_arg1) (ix2 j k)

/-- The region's codebook is the one launched. -/
theorem W_eq (c : Dev nD) : W m c = codebook m c := by
  funext r k
  unfold W codebook
  rw [V_main_arg1]

/-- The region's rows are the pixels launched. -/
theorem X_eq (c : Dev nD) : X m c = pixel (image m c) := by
  funext r k
  unfold X
  after_reads_at
  rfl

/-- The array of window `w` after the region, as the operations after it find it. -/
theorem found (c : Dev nD) (w : Fin cfg0.W) :
    Pipeline.withArrays (cfgs 0).spec c (V0 m c) (fun w => (dats m 0 c).arrAt w (cfgs 0).N)
      (Proc.devRef .tc (Pipeline.arrRef spec0 w)) = (dats m 0 c).arrAt w cfg0.N :=
  Pipeline.withArrays_arr spec0 launch0.win.arr_inj c _ _ w

/-- The first result holds the loss. -/
theorem tail0 (c : Dev nD) (j : S_.Idx) :
    Pipeline.afterTail₀ cfgs (dats m) 0 (V0 m) [hostOps1] c main_v0_0 j = loss (image m c) (codebook m c) := by
  unfold Pipeline.afterTail₀
  after_reads_at
  unfold loss total
  rw [← sum_blocks]
  refine congrArg (· * _) (Finset.sum_congr rfl fun t _ => ?_)
  refine (congrFun (found m c 5) _).trans ?_
  rw [part_arr, X_eq, W_eq]
  rfl

/-- The second result holds the quantized image. -/
theorem tail1 (c : Dev nD) (b : Fin 16) (k : Fin 256) (h w : Fin 32) :
    Pipeline.afterTail₀ cfgs (dats m) 0 (V0 m) [hostOps1] c main_v0_1 (ix4 b k h w)
      = quant (pixel (image m c) (pix b h w)) (codebook m c) k := by
  unfold Pipeline.afterTail₀
  after_reads_at
  refine (congrFun (found m c 4) _).trans ?_
  rw [quant_arr, X_eq, W_eq]
  rfl

/-- The fourth result holds the codes. -/
theorem tail3 (c : Dev nD) (r : Fin 16384) :
    Pipeline.afterTail₀ cfgs (dats m) 0 (V0 m) [hostOps1] c main_v0_3 (ix1 r)
      = word (pixel (image m c) r) (codebook m c) := by
  unfold Pipeline.afterTail₀
  after_reads_at
  refine (congrFun (found m c 3) _).trans ?_
  rw [idx_arr, X_eq, W_eq]
  refine congrArg (fun r => word (pixel (image m c) r) (codebook m c)) (Fin.ext ?_)
  exact Nat.div_add_mod r.val 256

/-- The kernel's run: the four results, and the arguments unchanged. -/
theorem run : θ_run (defs (F := Ideal)) (onTc (τ := τ) (main (F := Ideal))) ⟨m, fun _ => 0, g⟩ (fun r => ∀ c : Dev nD,
      r.2.mem ((c.tc : Thread nD τ).loc main_v0_0) = (fun _ => loss (image m c) (codebook m c))
      ∧ r.2.mem ((c.tc : Thread nD τ).loc main_v0_1)
        = (fun i => quant (pixel (image m c) (pix (i 0) (i 2) (i 3))) (codebook m c) (i 1))
      ∧ r.2.mem ((c.tc : Thread nD τ).loc main_v0_2) = (fun i => hot (pixel (image m c) (i 0)) (codebook m c) (i 1))
      ∧ r.2.mem ((c.tc : Thread nD τ).loc main_v0_3) = (fun i => word (pixel (image m c) (i 0)) (codebook m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from Gen.run_main m g
  · exact funext fun j => tail0 m c j
  · funext i
    idx_vars i
    exact tail1 m c _ _ _ _
  · refine (enc_arr m c).trans ?_
    rw [X_eq, W_eq]
  · funext i
    idx_vars i
    exact tail3 m c _
  · exact W_main_arg0 m (dats m) c

end Cert.KernelIdeal.Tail
end
-- ==== Proof.Stages.lean ====
/-
  The reference's stages as functions of arrays, each read at an index: the image as rows of channels, the distances, the
  codes, the one-hot rows, the quantized rows and the mean of the squared differences.
-/
module

public import proofs.«01_k».proof.Proof.Gen.ReferenceIdeal
public import proofs.«01_k».proof.Proof.Results
public import Idealize.ShloMosaic.Lib.Pointwise

@[expose] public section

set_option maxRecDepth 16384

noncomputable section

namespace Cert.ReferenceIdeal.Stages

open Idealize.ShloMosaic Cert.FirstMin Cert.Codebook Cert.Results Cert.ReferenceIdeal Cert.ReferenceIdeal.Gen

/-- The image with its channels last. -/
def last (x : FVec Ideal S16x256x32x32 .f32) : FVec Ideal S16x32x32x256 .f32 :=
  transpose S16x32x32x256 [0, 2, 3, 1] x transposes_S16x256x32x32_S16x32x32x256_0_2_3_1

/-- The image as rows of channels. -/
def flat (x : FVec Ideal S16x256x32x32 .f32) : FVec Ideal S16384x256 .f32 :=
  fun i => shapeCast S16384x256 (last x) shapeCasts_S16x32x32x256_S16384x256 i

/-- The distances of rows `y` to the codebook rows. -/
def dists (y : FVec Ideal S16384x256 .f32) (w : FVec Ideal S8192x256 .f32) : FVec Ideal S16384x8192 .f32 :=
  subf
    (addf
      (broadcastInDim S16384x8192 ![0, 1] bcast_S16384x1_S16384x8192_0_1
        (broadcastInDim S16384x1 ![0] bcast_S16384_S16384x1_0
          (Host.reduceAdd (mulf y y) (constant S_ .f32 0x00000000#32) reducesTo_S16384x256_S16384_d1 h_S_)))
      (broadcastInDim S16384x8192 ![0, 1] bcast_S1x8192_S16384x8192_0_1
        (broadcastInDim S1x8192 ![1] bcast_S8192_S1x8192_1
          (Host.reduceAdd (mulf w w) (constant S_ .f32 0x00000000#32) reducesTo_S8192x256_S8192_d1 h_S_))))
    (mulf (broadcastInDim S16384x8192 ![] bcast_S_S16384x8192 (constant S_ .f32 0x40000000#32))
      (Host.dotGeneral dot_S16384x256_S256x8192_S16384x8192_1_0_0_1_n_n none y
        (transpose S256x8192 [1, 0] w transposes_S8192x256_S256x8192_1_0)))

/-- The second component of an argument reduction. -/
def argSnd {s t u : Shape} {axes : List (Fin s.rank)} {β : Type}
    (f : Ideal .f32 × β → Ideal .f32 × β → Ideal .f32 × β) (x : FVec Ideal s .f32) (y : s.Idx → β)
    (ix : u.Idx → Ideal .f32) (iy : u.Idx → β) (h : s.ReducesTo axes t) (hu : 0 < u.numel) : t.Idx → β :=
  fun j => (Host.argReduce f x y ix iy h hu j).2

/-- The codes of the rows whose distances are `d`. -/
def codes (d : FVec Ideal S16384x8192 .f32) : IVec S16384 32 :=
  argSnd reducer_argmin_f32_i32 d (iotaInDim S16384x8192 32 1) (constant (F := Ideal) S_ .f32 0x7F800000#32)
    (constantI S_ 32 0#32) reducesTo_S16384x8192_S16384_d1 h_S_

/-- The one-hot rows of codes. -/
def hots (i : IVec S16384 32) : FVec Ideal S16384x8192 .f32 :=
  uitofp .f32 (cmpi .eq
    (broadcastInDim S16384x8192 ![0, 1] bcast_S16384x1_S16384x8192_0_1
      (broadcastInDim S16384x1 ![0] bcast_S16384_S16384x1_0 i))
    (broadcastInDim S16384x8192 ![0, 1] bcast_S1x8192_S16384x8192_0_1 (iotaInDim S1x8192 32 1)))

/-- The quantized rows, as pixels with their channels last. -/
def quants (e : FVec Ideal S16384x8192 .f32) (w : FVec Ideal S8192x256 .f32) : FVec Ideal S16x32x32x256 .f32 :=
  fun i => shapeCast S16x32x32x256 (Host.dotGeneral dot_S16384x8192_S8192x256_S16384x256_1_0_0_1_n_n none e w)
    shapeCasts_S16384x256_S16x32x32x256 i

/-- The mean of the squared differences. -/
def mean (q x : FVec Ideal S16x32x32x256 .f32) : FVec Ideal S_ .f32 :=
  Host.divf (Host.reduceAdd (mulf (subf q x) (subf q x)) (constant S_ .f32 0x00000000#32)
    reducesTo_S16x32x32x256_S_d0_1_2_3 h_S_) (constant S_ .f32 0x4A800000#32)

/-- The loss: the mean and one times the mean. -/
def losses (q x : FVec Ideal S16x32x32x256 .f32) : FVec Ideal S_ .f32 :=
  addf (mean q x) (mulf (constant S_ .f32 0x3F800000#32) (mean q x))

/-- The quantized image: the image and the difference to it, channels second. -/
def passed (q x : FVec Ideal S16x32x32x256 .f32) : FVec Ideal S16x256x32x32 .f32 :=
  transpose S16x256x32x32 [0, 3, 1, 2] (addf x (subf q x)) transposes_S16x32x32x256_S16x256x32x32_0_3_1_2

variable (x : FVec Ideal S16x256x32x32 .f32) (w : FVec Ideal S8192x256 .f32)

/-- An image array by its coordinates. -/
def img : Image := fun b k h w => x (ix4 b k h w)

/-- A codebook array by its coordinates. -/
def book : Book := fun j k => w (ix2 j k)

/-- An entry of the image with its channels last. -/
theorem last_apply (b : Fin 16) (h v : Fin 32) (k : Fin 256) : last x (ix4 b h v k) = img x b k h v := by
  pointwise [last, img]

/-- Row `r` of the flat image is the pixel of that number. -/
theorem flat_apply (r : Fin 16384) (k : Fin 256) : flat x (ix2 r k) = pixel (img x) r k := by
  pointwise [flat, last, img, pixel]

/-- A distance is that of the row to the codebook row. -/
theorem dists_apply (y : FVec Ideal S16384x256 .f32) (r : Fin 16384) (c : Fin 8192) :
    dists y w (ix2 r c) = dist (fun k => y (ix2 r k)) (book w) c := by
  unfold Codebook.dist
  pointwise [dists, book]

/-- The pairs a row of the reduction meets: each column's distance with its number. -/
theorem mem_fiber (d : FVec Ideal S16384x8192 .f32) (r : Fin 16384) (p : EReal × BitVec 32) :
    p ∈ Host.argReduceFiber d (iotaInDim S16384x8192 32 1) reducesTo_S16384x8192_S16384_d1 (ix1 r)
      ↔ ∃ c : Fin 8192, p = (d (ix2 r c), BitVec.ofNat 32 c.val) := by
  have hdrop (a : Fin 16384) (c : Fin 8192) : reducesTo_S16384x8192_S16384_d1.drop (ix2 a c) = ix1 a := by
    funext b
    refine Fin.ext ?_
    obtain rfl : b = 0 := Subsingleton.elim _ _
    exact reducesTo_S16384x8192_S16384_d1.drop_apply_val_of_eq (ix2 a c) 0 0
  simp only [Host.argReduceFiber, List.mem_map, List.mem_filter, List.mem_finRange, true_and, decide_eq_true_eq]
  constructor
  · rintro ⟨n, hn, rfl⟩
    generalize S16384x8192.rowMajor.symm n = i at hn ⊢
    obtain ⟨a, c, rfl⟩ : ∃ (a : Fin 16384) (c : Fin 8192), i = ix2 a c := ⟨i 0, i 1, by idx_ext⟩
    rw [hdrop] at hn
    obtain rfl : a = r := congrFun hn 0
    exact ⟨c, rfl⟩
  · rintro ⟨c, rfl⟩
    refine ⟨S16384x8192.rowMajor (ix2 r c), ?_, ?_⟩
    · rw [Equiv.symm_apply_apply, hdrop]
    · rw [Equiv.symm_apply_apply]
      rfl

/-- The reduction's body keeps the smaller pair. -/
theorem reducer_eq : reducer_argmin_f32_i32 (F := Ideal) = keep := by
  funext p q
  unfold reducer_argmin_f32_i32 keep
  show (Scalar.select (IntOp.ori (BitVec.ofBool (decide (p.1 < q.1))) (BitVec.ofBool (decide (p.1 ≠ p.1)))) p.1 q.1,
    Scalar.select (IntOp.ori (IntOp.ori (BitVec.ofBool (decide (p.1 < q.1))) (BitVec.ofBool (decide (p.1 ≠ p.1))))
      (IntOp.andi (BitVec.ofBool (decide (p.1 = q.1))) (BitVec.ofBool (BitVec.slt p.2 q.2)))) p.2 q.2) = _
  rw [BitVec.slt_eq_decide]
  by_cases h1 : p.1 < q.1
  · have h4 : ∀ b : BitVec 1, 1#1 ||| b = 1#1 := by decide
    simp [h1, h4, Scalar.select, IntOp.ori, IntOp.andi]
  · by_cases h2 : p.1 = q.1 <;> by_cases h3 : p.2.toInt < q.2.toInt <;>
      simp [h1, h2, h3, Scalar.select, IntOp.ori, IntOp.andi, Prod.ext_iff]

/-- The second component of an argument reduction folds the body over the pairs that it meets. -/
theorem argSnd_apply {s t u : Shape} {axes : List (Fin s.rank)} {β : Type}
    (f : Ideal .f32 × β → Ideal .f32 × β → Ideal .f32 × β) (x : FVec Ideal s .f32) (y : s.Idx → β)
    (ix : u.Idx → Ideal .f32) (iy : u.Idx → β) (h : s.ReducesTo axes t) (hu : 0 < u.numel) (j : t.Idx) :
    argSnd f x y ix iy h hu j
      = ((Host.argReduceFiber x y h j).foldl f (ix (Shape.Idx.first hu), iy (Shape.Idx.first hu))).2 := by
  unfold argSnd
  rw [Ideal.argReduce_eq_reduce2, Host.reduce2_eq_foldl_fiber]

/-- Folding the body over a row's pairs, from the initial values, ends at the first least column. -/
theorem fold_codes (d : FVec Ideal S16384x8192 .f32) (r : Fin 16384) (l : List (EReal × BitVec 32))
    (hl : ∀ p, p ∈ l ↔ ∃ c : Fin 8192, p = (d (ix2 r c), BitVec.ofNat 32 c.val)) :
    (l.foldl (reducer_argmin_f32_i32 (F := Ideal)) (constant (F := Ideal) S_ .f32 0x7F800000#32 (Shape.Idx.first h_S_),
      constantI S_ 32 0#32 (Shape.Idx.first h_S_))).2 = BitVec.ofNat 32 (firstMin fun c => d (ix2 r c)).val := by
  have h := foldl_pairs_firstMin (fun c : Fin 8192 => d (ix2 r c)) (by norm_num) l hl
  have h0 : constant (F := Ideal) S_ .f32 0x7F800000#32 (Shape.Idx.first h_S_) = (⊤ : EReal) := inf_eq_top
  rw [h0, reducer_eq]
  exact h

/-- A code is the first least column of its row of distances. -/
theorem codes_apply (d : FVec Ideal S16384x8192 .f32) (r : Fin 16384) :
    codes d (ix1 r) = BitVec.ofNat 32 (firstMin fun c => d (ix2 r c)).val := by
  exact (argSnd_apply _ _ _ _ _ _ _ _).trans (fold_codes d r _ (mem_fiber d r))

/-- A one-hot entry is one exactly at the column of the code. -/
theorem hots_apply (i : IVec S16384 32) (r : Fin 16384) (c : Fin 8192) :
    hots i (ix2 r c) = if BitVec.ofNat 32 c.val = i (ix1 r) then 1 else 0 := by
  have e : hots i (ix2 r c) = FloatOps.uitofp .f32 (IntOp.cmpi .eq (i (ix1 r)) (BitVec.ofNat 32 c.val)) := by
    pointwise [hots]
  rw [e]
  show (((BitVec.ofBool (i (ix1 r) == BitVec.ofNat 32 c.val)).toNat : ℝ) : EReal) = _
  by_cases h : BitVec.ofNat 32 c.val = i (ix1 r)
  · rw [if_pos h, h, beq_self_eq_true]
    simp
  · rw [if_neg h, beq_eq_false_iff_ne.mpr (Ne.symm h)]
    simp

/-- A quantized entry is the one-hot row's product with a codebook column. -/
theorem quants_apply (e : FVec Ideal S16384x8192 .f32) (b : Fin 16) (h v : Fin 32) (k : Fin 256) :
    quants e w (ix4 b h v k) = ∑ c, e (ix2 (pix b h v) c) * book w c k := by
  pointwise [quants, book, pix]

/-- The mean is the sum of the squared differences over all entries, divided. -/
theorem mean_apply (q y : FVec Ideal S16x32x32x256 .f32) (j : S_.Idx) :
    mean q y j = Ideal.div (∑ b : Fin 16, ∑ h : Fin 32, ∑ v : Fin 32, ∑ k : Fin 256,
      (q (ix4 b h v k) - y (ix4 b h v k)) * (q (ix4 b h v k) - y (ix4 b h v k))) (Ideal.ofBits .f32 0x4A800000#32) := by
  have e : mean q y j = Ideal.div (Ideal.hostReduceAdd reducesTo_S16x32x32x256_S_d0_1_2_3
      (mulf (subf q y) (subf q y)) 0 j) (Ideal.ofBits .f32 0x4A800000#32) := by
    pointwise [mean]
  rw [e, Ideal.hostReduceAdd_total _ (fun b => b.elim0), zero_add, sum_idx4]
  rfl

/-- The quantized image is the image plus the difference. -/
theorem passed_apply (q y : FVec Ideal S16x32x32x256 .f32) (b : Fin 16) (k : Fin 256) (h v : Fin 32) :
    passed q y (ix4 b k h v) = y (ix4 b h v k) + (q (ix4 b h v k) - y (ix4 b h v k)) := by
  pointwise [passed]

/-! ## The stages composed -/

/-- The codes of an image. -/
def codesOf : IVec S16384 32 := codes (dists (flat x) w)

/-- The quantized image with its channels last. -/
def quantsOf : FVec Ideal S16x32x32x256 .f32 := quants (hots (codesOf x w)) w

/-- The reference's codes are those of the pixels. -/
theorem codesOf_apply (r : Fin 16384) : codesOf x w (ix1 r) = word (pixel (img x) r) (book w) := by
  unfold codesOf word best
  rw [codes_apply]
  refine congrArg (fun f => BitVec.ofNat 32 (firstMin f).val) (funext fun c => ?_)
  rw [dists_apply]
  exact congrArg (fun y => Codebook.dist y (book w) c) (funext fun k => flat_apply x r k)

/-- The reference's one-hot rows are those of the pixels. -/
theorem hotsOf_apply (r : Fin 16384) (c : Fin 8192) :
    hots (codesOf x w) (ix2 r c) = hot (pixel (img x) r) (book w) c := by
  rw [hots_apply, codesOf_apply]
  unfold word hot
  exact if_congr ofNat_inj rfl rfl

/-- The reference's quantized pixels are the selected codebook rows. -/
theorem quantsOf_apply (b : Fin 16) (h v : Fin 32) (k : Fin 256) :
    quantsOf x w (ix4 b h v k) = quant (pixel (img x) (pix b h v)) (book w) k := by
  unfold quantsOf quant
  rw [quants_apply]
  exact Finset.sum_congr rfl fun c _ => by rw [hotsOf_apply]

/-- The reference's loss is the total times 2⁻²¹. -/
theorem losses_apply (j : S_.Idx) : losses (quantsOf x w) (last x) j = loss (img x) (book w) := by
  have e : losses (quantsOf x w) (last x) j = mean (quantsOf x w) (last x) j
      + Ideal.ofBits .f32 0x3F800000#32 * mean (quantsOf x w) (last x) j := by
    pointwise [losses]
  have t : (∑ b : Fin 16, ∑ h : Fin 32, ∑ v : Fin 32, ∑ k : Fin 256,
      (quantsOf x w (ix4 b h v k) - last x (ix4 b h v k)) * (quantsOf x w (ix4 b h v k) - last x (ix4 b h v k)))
      = total (img x) (book w) := by
    unfold total
    rw [← sum_pixels]
    refine Finset.sum_congr rfl fun b _ => Finset.sum_congr rfl fun h _ => Finset.sum_congr rfl fun v _ =>
      Finset.sum_congr rfl fun k _ => ?_
    rw [quantsOf_apply, last_apply]
    unfold sqDiff
    rw [pixel_pix]
  rw [e, mean_apply, t]
  exact mean_twice _

end Cert.ReferenceIdeal.Stages
end
-- ==== Proof.Reference.lean ====
/-
  The reference's run: its four results as the plain functions of the image and the codebook.
-/
module

public import proofs.«01_k».proof.Proof.Stages
public import Idealize.ShloMosaic.Lib.Claim
public import Idealize.ShloMosaic.Lib.Quiescent
public import Idealize.ShloMosaic.Lib.Tactic.CleanTypes

@[expose] public section

set_option maxRecDepth 16384

noncomputable section

namespace Cert.ReferenceIdeal.Run

open Idealize.ShloMosaic Idealize.ShloMosaic.TcCoe Idealize.SL.Sem Cert.Codebook Cert.Results Cert.ReferenceIdeal
  Cert.ReferenceIdeal.Gen Cert.ReferenceIdeal.Stages

variable (m : (ℓ : Loc nD τ sig) → Buf (Elt Ideal) ℓ) (g : Dev nD → PrngReg)

/-- The image array as launched. -/
abbrev image (c : Dev nD) : FVec Ideal S16x256x32x32 .f32 := m ((c.tc : Thread nD τ).loc main_arg0)

/-- The codebook array as launched. -/
abbrev codebook (c : Dev nD) : FVec Ideal S8192x256 .f32 := m ((c.tc : Thread nD τ).loc main_arg1)

/-- The reference's run, stage by stage. -/
theorem run : θ_run (defs (F := Ideal)) (onTc (τ := τ) (main (F := Ideal))) ⟨m, fun _ => 0, g⟩ (fun r => ∀ c : Dev nD,
      r.2.mem ((c.tc : Thread nD τ).loc main_v31)
        = losses (quantsOf (image m c) (codebook m c)) (last (image m c))
      ∧ r.2.mem ((c.tc : Thread nD τ).loc main_v32)
        = passed (quantsOf (image m c) (codebook m c)) (last (image m c))
      ∧ r.2.mem ((c.tc : Thread nD τ).loc main_v17) = hots (codesOf (image m c) (codebook m c))
      ∧ r.2.mem ((c.tc : Thread nD τ).loc main_v16) = codesOf (image m c) (codebook m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  all_goals simp -implicitDefEqProofs only [StableHlo.TRef.toBuf, StableHlo.TRef.ofBuf, cast_cast, cast_eq]
  all_goals clean_types
  all_goals unfold image codebook
  · unfold losses mean quantsOf quants hots codesOf codes argSnd dists flat last
    rfl
  · unfold passed quantsOf quants hots codesOf codes argSnd dists flat last
    rfl
  · unfold hots codesOf codes argSnd dists flat last
    rfl
  · unfold codesOf codes argSnd dists flat last
    rfl

/-- The reference's frame: its arguments end unchanged and no semaphore is left raised. -/
theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (defs (F := Ideal)) _ _).mono
    (fun r h => ⟨fun c => (h c).2.2.2.2, sem_eq_zero_of_no_sems (by decide) r.2⟩) (run m g)

end Cert.ReferenceIdeal.Run
end
-- ==== Proof.Finite.lean ====
/-
  The precondition: every entry of the image is finite.
-/
module

public import proofs.«01_k».proof.Pre_finite_x
public import proofs.«01_k».proof.Proof.Codebook
public import Idealize.ShloMosaic.Lib.ReduceAll
public import Idealize.ShloMosaic.Lib.Pointwise

@[expose] public section

noncomputable section

namespace Cert.Pre_finite_x

open Idealize.ShloMosaic Cert.Codebook

/-- The side conditions of the precondition hold. -/
theorem facts : Facts where
  bcast_S_S16x256x32x32 := by decide
  reducesTo_S16x256x32x32_S_d0_1_2_3 := by decide
  h_S_ := by decide

/-- An extended real whose absolute value lies below the top is a real number. -/
theorem real_of_abs {a : EReal} (h : max a (-a) < ⊤) : ∃ r : ℝ, a = r := by
  induction a with
  | bot => simp at h
  | top => simp at h
  | coe r => exact ⟨r, rfl⟩

/-- Where the precondition holds every entry of the image is a real number. -/
theorem entry_real [Facts] (x : FVec Ideal S16x256x32x32 .f32) (w : FVec Ideal S8192x256 .f32) (j : S_.Idx)
    (h : fn x w j = 1#1) (i : S16x256x32x32.Idx) : ∃ r : ℝ, x i = (r : EReal) := by
  have hs : Subsingleton S_.Idx := ⟨fun a b => funext fun k => k.elim0⟩
  unfold fn at h
  have e := Host.reduce_andi_all _ _ _ _ j h i
  have e' : BitVec.ofBool (decide (max (x i) (-x i) < Ideal.ofBits .f32 2139095040#32)) = 1#1 := e
  rw [inf_eq_top] at e'
  refine real_of_abs ?_
  by_contra hn
  rw [decide_eq_false hn] at e'
  exact absurd e' (by decide)

end Cert.Pre_finite_x
end
-- ==== Proof.lean ====
/-
  The proof of `Cert.Claim`: the frames of the kernel, of its idealization and of the reference, and the equality of the
  kernel's four results with the reference's.
-/
module

public import proofs.«01_k».proof.Defs
public import proofs.«01_k».proof.Proof.Gen.Kernel.Frame
public import proofs.«01_k».proof.Proof.Gen.KernelIdeal.Frame
public import proofs.«01_k».proof.Proof.Tail
public import proofs.«01_k».proof.Proof.Reference
public import proofs.«01_k».proof.Proof.Finite

@[expose] public section

set_option maxRecDepth 16384

noncomputable section

namespace Cert.Proof

open Idealize.ShloMosaic Idealize.SL.Sem Cert.Codebook Cert.Results Cert.ReferenceIdeal.Stages

/-- Both programs end with the same four results wherever the image is finite. -/
theorem algebraic : algebraic_KernelIdeal_ReferenceIdeal_pre_finite_x (hKernelIdeal := Cert.KernelIdeal.Gen.facts)
    (hReferenceIdeal := Cert.ReferenceIdeal.Gen.facts) (hPre_finite_x := Cert.Pre_finite_x.facts) := by
  pair_intro
  · run_from Cert.KernelIdeal.Tail.run m g
  · refine (θ_run (Cert.ReferenceIdeal.defs (F := Ideal)) _ _).mono (fun r h c => ?_) (Cert.ReferenceIdeal.Run.run m' g')
    obtain ⟨h0, h1, h2, h3, ha⟩ := h c
    have hx : img (Cert.ReferenceIdeal.Run.image m' c) = Cert.KernelIdeal.Tail.image m c := by
      unfold Cert.ReferenceIdeal.Run.image
      rw [(hagree c).1]
      rfl
    have hw : book (Cert.ReferenceIdeal.Run.codebook m' c) = Cert.KernelIdeal.Tail.codebook m c := by
      unfold Cert.ReferenceIdeal.Run.codebook
      rw [(hagree c).2]
      rfl
    refine ⟨h0.trans (funext fun j => ?_), h1.trans (funext fun i => ?_), h2.trans (funext fun i => ?_),
      h3.trans (funext fun i => ?_), ha⟩
    · rw [losses_apply, hx, hw]
    · idx_vars i
      obtain ⟨y, hy⟩ := @Cert.Pre_finite_x.entry_real Cert.Pre_finite_x.facts _ _ ix0 (congrFun (hpre c) ix0) (ix4 i0 i1 i2 i3)
      rw [passed_apply, last_apply, quantsOf_apply, hx, hw]
      refine (congrArg (fun t => t + (quant _ _ _ - t)) hy).trans (add_sub_finite y _)
    · idx_vars i
      rw [hotsOf_apply, hx, hw]
    · idx_vars i
      rw [codesOf_apply, hx, hw]

/-- All the claims. -/
theorem claim : Cert.Claim :=
  ⟨Cert.Kernel.Gen.facts, Cert.KernelIdeal.Gen.facts, Cert.ReferenceIdeal.Gen.facts, Cert.Pre_finite_x.facts,
    fun m g _ => Cert.Kernel.Gen.frame m g, fun m g _ => Cert.KernelIdeal.Gen.frame m g,
    fun m g _ => Cert.KernelIdeal.Gen.frame m g, fun m g _ => Cert.ReferenceIdeal.Run.frame m g,
    fun m g _ => Cert.ReferenceIdeal.Run.frame m g, trivial, algebraic⟩

end Cert.Proof

end
